-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S16384x32 : Shape := ⟨2, ![16384, 32]⟩
abbrev S16384 : Shape := ⟨1, ![16384]⟩
abbrev S32x64 : Shape := ⟨2, ![32, 64]⟩
abbrev S64 : Shape := ⟨1, ![64]⟩
abbrev S64x64 : Shape := ⟨2, ![64, 64]⟩
abbrev S64x100 : Shape := ⟨2, ![64, 100]⟩
abbrev S100 : Shape := ⟨1, ![100]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S16384 : S_.BroadcastsInDim S16384 (![] : Fin 0 → Fin S16384.rank)
  reducesTo_S16384_S_d0 : S16384.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x100 : S_.BroadcastsInDim S64x100 (![] : Fin 0 → Fin S64x100.rank)
  reducesTo_S64x100_S_d0_1 : S64x100.ReducesTo [0, 1] S_
  bcast_S_S100 : S_.BroadcastsInDim S100 (![] : Fin 0 → Fin S100.rank)
  reducesTo_S100_S_d0 : S100.ReducesTo [0] S_

variable [Facts]

def fn_part4 {F : FTy → Type} [FloatOps F] (main_arg13 : FVec F S64 .f32) (main_arg14 : FVec F S64x100 .f32) (main_arg15 : FVec F S100 .f32) (main_v62 : IVec S_ 1) (main_v66 : IVec S_ 1) : IVec S_ 1 :=
  let main_v67 : IVec S_ 1 := andi main_v62 main_v66
  let main_cst_27 : FVec F S_ .f32 := constant S_ .f32 0x3727C5AC#32
  let main_v68 : FVec F S64 .f32 := broadcastInDim S64 ![] bcast_S_S64 main_cst_27
  let main_v69 : FVec F S64 .f32 := addf main_arg13 main_v68
  let main_cst_28 : FVec F S_ .f32 := constant S_ .f32 0x00000000#32
  let main_v70 : FVec F S64 .f32 := broadcastInDim S64 ![] bcast_S_S64 main_cst_28
  let main_v71 : IVec S64 1 := cmpf .ogt main_v69 main_v70
  let main_c_29 : IVec S_ 1 := constantI S_ 1 1#1
  let main_v72 : IVec S_ 1 := (fun x v => Host.reduce IntOp.andi x v reducesTo_S64_S_d0 h_S_) main_v71 main_c_29
  let main_v73 : IVec S_ 1 := andi main_v67 main_v72
  let main_v74 : FVec F S64x100 .f32 := Host.absf main_arg14
  let main_cst_30 : FVec F S_ .f32 := constant S_ .f32 0x7F800000#32
  let main_v75 : FVec F S64x100 .f32 := broadcastInDim S64x100 ![] bcast_S_S64x100 main_cst_30
  let main_v76 : IVec S64x100 1 := cmpf .olt main_v74 main_v75
  let main_c_31 : IVec S_ 1 := constantI S_ 1 1#1
  let main_v77 : IVec S_ 1 := (fun x v => Host.reduce IntOp.andi x v reducesTo_S64x100_S_d0_1 h_S_) main_v76 main_c_31
  let main_v78 : IVec S_ 1 := andi main_v73 main_v77
  let main_v79 : FVec F S100 .f32 := Host.absf main_arg15
  let main_cst_32 : FVec F S_ .f32 := constant S_ .f32 0x7F800000#32
  let main_v80 : FVec F S100 .f32 := broadcastInDim S100 ![] bcast_S_S100 main_cst_32
  let main_v81 : IVec S100 1 := cmpf .olt main_v79 main_v80
  let main_c_33 : IVec S_ 1 := constantI S_ 1 1#1
  let main_v82 : IVec S_ 1 := (fun x v => Host.reduce IntOp.andi x v reducesTo_S100_S_d0 h_S_) main_v81 main_c_33
  let main_v83 : IVec S_ 1 := andi main_v78 main_v82
  main_v83

def fn_part3 {F : FTy → Type} [FloatOps F] (main_arg10 : FVec F S64 .f32) (main_arg11 : FVec F S64 .f32) (main_arg12 : FVec F S64 .f32) (main_arg13 : FVec F S64 .f32) (main_arg14 : FVec F S64x100 .f32) (main_arg15 : FVec F S100 .f32) (main_v47 : IVec S_ 1) (main_v48 : FVec F S64 .f32) (main_v49 : FVec F S64 .f32) : IVec S_ 1 :=
  let main_v50 : IVec S64 1 := cmpf .olt main_v48 main_v49
  let main_c_20 : IVec S_ 1 := constantI S_ 1 1#1
  let main_v51 : IVec S_ 1 := (fun x v => Host.reduce IntOp.andi x v reducesTo_S64_S_d0 h_S_) main_v50 main_c_20
  let main_v52 : IVec S_ 1 := andi main_v47 main_v51
  let main_v53 : FVec F S64 .f32 := Host.absf main_arg10
  let main_cst_21 : FVec F S_ .f32 := constant S_ .f32 0x7F800000#32
  let main_v54 : FVec F S64 .f32 := broadcastInDim S64 ![] bcast_S_S64 main_cst_21
  let main_v55 : IVec S64 1 := cmpf .olt main_v53 main_v54
  let main_c_22 : IVec S_ 1 := constantI S_ 1 1#1
  let main_v56 : IVec S_ 1 := (fun x v => Host.reduce IntOp.andi x v reducesTo_S64_S_d0 h_S_) main_v55 main_c_22
  let main_v57 : IVec S_ 1 := andi main_v52 main_v56
  let main_v58 : FVec F S64 .f32 := Host.absf main_arg11
  let main_cst_23 : FVec F S_ .f32 := constant S_ .f32 0x7F800000#32
  let main_v59 : FVec F S64 .f32 := broadcastInDim S64 ![] bcast_S_S64 main_cst_23
  let main_v60 : IVec S64 1 := cmpf .olt main_v58 main_v59
  let main_c_24 : IVec S_ 1 := constantI S_ 1 1#1
  let main_v61 : IVec S_ 1 := (fun x v => Host.reduce IntOp.andi x v reducesTo_S64_S_d0 h_S_) main_v60 main_c_24
  let main_v62 : IVec S_ 1 := andi main_v57 main_v61
  let main_v63 : FVec F S64 .f32 := Host.absf main_arg12
  let main_cst_25 : FVec F S_ .f32 := constant S_ .f32 0x7F800000#32
  let main_v64 : FVec F S64 .f32 := broadcastInDim S64 ![] bcast_S_S64 main_cst_25
  let main_v65 : IVec S64 1 := cmpf .olt main_v63 main_v64
  let main_c_26 : IVec S_ 1 := constantI S_ 1 1#1
  let main_v66 : IVec S_ 1 := (fun x v => Host.reduce IntOp.andi x v reducesTo_S64_S_d0 h_S_) main_v65 main_c_26
  fn_part4 (F := F) main_arg13 main_arg14 main_arg15 main_v62 main_v66

def fn_part2 {F : FTy → Type} [FloatOps F] (main_arg7 : FVec F S64 .f32) (main_arg8 : FVec F S64x64 .f32) (main_arg9 : FVec F S64 .f32) (main_arg10 : FVec F S64 .f32) (main_arg11 : FVec F S64 .f32) (main_arg12 : FVec F S64 .f32) (main_arg13 : FVec F S64 .f32) (main_arg14 : FVec F S64x100 .f32) (main_arg15 : FVec F S100 .f32) (main_v31 : IVec S_ 1) (main_v32 : FVec F S64 .f32) (main_cst_12 : FVec F S_ .f32) : IVec S_ 1 :=
  let main_v33 : FVec F S64 .f32 := broadcastInDim S64 ![] bcast_S_S64 main_cst_12
  let main_v34 : IVec S64 1 := cmpf .olt main_v32 main_v33
  let main_c_13 : IVec S_ 1 := constantI S_ 1 1#1
  let main_v35 : IVec S_ 1 := (fun x v => Host.reduce IntOp.andi x v reducesTo_S64_S_d0 h_S_) main_v34 main_c_13
  let main_v36 : IVec S_ 1 := andi main_v31 main_v35
  let main_cst_14 : FVec F S_ .f32 := constant S_ .f32 0x3727C5AC#32
  let main_v37 : FVec F S64 .f32 := broadcastInDim S64 ![] bcast_S_S64 main_cst_14
  let main_v38 : FVec F S64 .f32 := addf main_arg7 main_v37
  let main_cst_15 : FVec F S_ .f32 := constant S_ .f32 0x00000000#32
  let main_v39 : FVec F S64 .f32 := broadcastInDim S64 ![] bcast_S_S64 main_cst_15
  let main_v40 : IVec S64 1 := cmpf .ogt main_v38 main_v39
  let main_c_16 : IVec S_ 1 := constantI S_ 1 1#1
  let main_v41 : IVec S_ 1 := (fun x v => Host.reduce IntOp.andi x v reducesTo_S64_S_d0 h_S_) main_v40 main_c_16
  let main_v42 : IVec S_ 1 := andi main_v36 main_v41
  let main_v43 : FVec F S64x64 .f32 := Host.absf main_arg8
  let main_cst_17 : FVec F S_ .f32 := constant S_ .f32 0x7F800000#32
  let main_v44 : FVec F S64x64 .f32 := broadcastInDim S64x64 ![] bcast_S_S64x64 main_cst_17
  let main_v45 : IVec S64x64 1 := cmpf .olt main_v43 main_v44
  let main_c_18 : IVec S_ 1 := constantI S_ 1 1#1
  let main_v46 : IVec S_ 1 := (fun x v => Host.reduce IntOp.andi x v reducesTo_S64x64_S_d0_1 h_S_) main_v45 main_c_18
  let main_v47 : IVec S_ 1 := andi main_v42 main_v46
  let main_v48 : FVec F S64 .f32 := Host.absf main_arg9
  let main_cst_19 : FVec F S_ .f32 := constant S_ .f32 0x7F800000#32
  let main_v49 : FVec F S64 .f32 := broadcastInDim S64 ![] bcast_S_S64 main_cst_19
  fn_part3 (F := F) main_arg10 main_arg11 main_arg12 main_arg13 main_arg14 main_arg15 main_v47 main_v48 main_v49

def fn_part1 {F : FTy → Type} [FloatOps F] (main_arg3 : FVec F S64 .f32) (main_arg4 : FVec F S64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64 .f32) (main_arg13 : FVec F S64 .f32) (main_arg14 : FVec F S64x100 .f32) (main_arg15 : FVec F S100 .f32) (main_v11 : IVec S_ 1) (main_v15 : IVec S_ 1) : IVec S_ 1 :=
  let main_v16 : IVec S_ 1 := andi main_v11 main_v15
  let main_v17 : FVec F S64 .f32 := Host.absf main_arg3
  let main_cst_6 : FVec F S_ .f32 := constant S_ .f32 0x7F800000#32
  let main_v18 : FVec F S64 .f32 := broadcastInDim S64 ![] bcast_S_S64 main_cst_6
  let main_v19 : IVec S64 1 := cmpf .olt main_v17 main_v18
  let main_c_7 : IVec S_ 1 := constantI S_ 1 1#1
  let main_v20 : IVec S_ 1 := (fun x v => Host.reduce IntOp.andi x v reducesTo_S64_S_d0 h_S_) main_v19 main_c_7
  let main_v21 : IVec S_ 1 := andi main_v16 main_v20
  let main_v22 : FVec F S64 .f32 := Host.absf main_arg4
  let main_cst_8 : FVec F S_ .f32 := constant S_ .f32 0x7F800000#32
  let main_v23 : FVec F S64 .f32 := broadcastInDim S64 ![] bcast_S_S64 main_cst_8
  let main_v24 : IVec S64 1 := cmpf .olt main_v22 main_v23
  let main_c_9 : IVec S_ 1 := constantI S_ 1 1#1
  let main_v25 : IVec S_ 1 := (fun x v => Host.reduce IntOp.andi x v reducesTo_S64_S_d0 h_S_) main_v24 main_c_9
  let main_v26 : IVec S_ 1 := andi main_v21 main_v25
  let main_v27 : FVec F S64 .f32 := Host.absf main_arg5
  let main_cst_10 : FVec F S_ .f32 := constant S_ .f32 0x7F800000#32
  let main_v28 : FVec F S64 .f32 := broadcastInDim S64 ![] bcast_S_S64 main_cst_10
  let main_v29 : IVec S64 1 := cmpf .olt main_v27 main_v28
  let main_c_11 : IVec S_ 1 := constantI S_ 1 1#1
  let main_v30 : IVec S_ 1 := (fun x v => Host.reduce IntOp.andi x v reducesTo_S64_S_d0 h_S_) main_v29 main_c_11
  let main_v31 : IVec S_ 1 := andi main_v26 main_v30
  let main_v32 : FVec F S64 .f32 := Host.absf main_arg6
  let main_cst_12 : FVec F S_ .f32 := constant S_ .f32 0x7F800000#32
  fn_part2 (F := F) main_arg7 main_arg8 main_arg9 main_arg10 main_arg11 main_arg12 main_arg13 main_arg14 main_arg15 main_v31 main_v32 main_cst_12

def fn {F : FTy → Type} [FloatOps F] (main_arg0 : FVec F S16384x32 .f32) (main_arg1 : IVec S16384 32) (main_arg2 : FVec F S32x64 .f32) (main_arg3 : FVec F S64 .f32) (main_arg4 : FVec F S64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64 .f32) (main_arg13 : FVec F S64 .f32) (main_arg14 : FVec F S64x100 .f32) (main_arg15 : FVec F S100 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 1 := constantI S_ 1 1#1
  let main_v6 : IVec S_ 1 := (fun x v => Host.reduce IntOp.andi x v reducesTo_S16384_S_d0 h_S_) main_v5 main_c_1
  let main_v7 : IVec S_ 1 := andi main_v3 main_v6
  let main_c_2 : IVec S_ 32 := constantI S_ 32 100#32
  let main_v8 : IVec S16384 32 := broadcastInDim S16384 ![] bcast_S_S16384 main_c_2
  let main_v9 : IVec S16384 1 := cmpi .slt main_arg1 main_v8
  let main_c_3 : IVec S_ 1 := constantI S_ 1 1#1
  let main_v10 : IVec S_ 1 := (fun x v => Host.reduce IntOp.andi x v reducesTo_S16384_S_d0 h_S_) main_v9 main_c_3
  let main_v11 : IVec S_ 1 := andi main_v7 main_v10
  let main_v12 : FVec F S32x64 .f32 := Host.absf main_arg2
  let main_cst_4 : FVec F S_ .f32 := constant S_ .f32 0x7F800000#32
  let main_v13 : FVec F S32x64 .f32 := broadcastInDim S32x64 ![] bcast_S_S32x64 main_cst_4
  let main_v14 : IVec S32x64 1 := cmpf .olt main_v12 main_v13
  let main_c_5 : IVec S_ 1 := constantI S_ 1 1#1
  let main_v15 : IVec S_ 1 := (fun x v => Host.reduce IntOp.andi x v reducesTo_S32x64_S_d0_1 h_S_) main_v14 main_c_5
  fn_part1 (F := F) main_arg3 main_arg4 main_arg5 main_arg6 main_arg7 main_arg8 main_arg9 main_arg10 main_arg11 main_arg12 main_arg13 main_arg14 main_arg15 main_v11 main_v15
-- ==== Kernel.lean ====
abbrev S16384x32 : Shape := ⟨2, ![16384, 32]⟩
abbrev S16384 : Shape := ⟨1, ![16384]⟩
abbrev S32x64 : Shape := ⟨2, ![32, 64]⟩
abbrev S64 : Shape := ⟨1, ![64]⟩
abbrev S64x64 : Shape := ⟨2, ![64, 64]⟩
abbrev S64x100 : Shape := ⟨2, ![64, 100]⟩
abbrev S100 : Shape := ⟨1, ![100]⟩
abbrev S32x16384 : Shape := ⟨2, ![32, 16384]⟩
abbrev S1x64 : Shape := ⟨2, ![1, 64]⟩
abbrev S1x100 : Shape := ⟨2, ![1, 100]⟩
abbrev S1x1 : Shape := ⟨2, ![1, 1]⟩
abbrev S64x1 : Shape := ⟨2, ![64, 1]⟩
abbrev S64x16384 : Shape := ⟨2, ![64, 16384]⟩
abbrev S64x4 : Shape := ⟨2, ![64, 4]⟩
abbrev S64x104 : Shape := ⟨2, ![64, 104]⟩
abbrev S1x4 : Shape := ⟨2, ![1, 4]⟩
abbrev S1x104 : Shape := ⟨2, ![1, 104]⟩
abbrev S104x1 : Shape := ⟨2, ![104, 1]⟩
abbrev S104x16384 : Shape := ⟨2, ![104, 16384]⟩
abbrev S1x16384 : Shape := ⟨2, ![1, 16384]⟩
abbrev S1x1x16384 : Shape := ⟨3, ![1, 1, 16384]⟩
abbrev S1 : Shape := ⟨1, ![1]⟩
abbrev S1x1x1 : Shape := ⟨3, ![1, 1, 1]⟩
abbrev S1x104x16384 : Shape := ⟨3, ![1, 104, 16384]⟩
abbrev S_ : Shape := ⟨0, ![]⟩

abbrev nBuf : Space → Nat
  | .hbm => 30
  | .vmem => 16
  | .smem => 1
  | _ => 0

abbrev bufTy : (tb : Table) → Fin (tcTables nBuf tb) → BufTy
  | .hbm, ⟨0, _⟩ => ⟨S16384x32, .f32⟩
  | .hbm, ⟨1, _⟩ => ⟨S16384, .i32⟩
  | .hbm, ⟨2, _⟩ => ⟨S32x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x100, .f32⟩
  | .hbm, ⟨15, _⟩ => ⟨S100, .f32⟩
  | .hbm, ⟨16, _⟩ => ⟨S32x16384, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x100, .f32⟩
  | .hbm, ⟨28, _⟩ => ⟨S1x1, .f32⟩
  | .hbm, ⟨29, _⟩ => ⟨S_, .f32⟩
  | .local _ .vmem, ⟨0, _⟩ => ⟨S32x16384, .f32⟩
  | .local _ .vmem, ⟨1, _⟩ => ⟨S16384, .i32⟩
  | .local _ .vmem, ⟨2, _⟩ => ⟨S32x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S64x100, .f32⟩
  | .local _ .vmem, ⟨15, _⟩ => ⟨S1x100, .f32⟩
  | .local _ .smem, ⟨0, _⟩ => ⟨S1x1, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x100 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x100 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .smem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S16384x32 : Shape := ⟨2, ![16384, 32]⟩
abbrev S16384 : Shape := ⟨1, ![16384]⟩
abbrev S32x64 : Shape := ⟨2, ![32, 64]⟩
abbrev S64 : Shape := ⟨1, ![64]⟩
abbrev S64x64 : Shape := ⟨2, ![64, 64]⟩
abbrev S64x100 : Shape := ⟨2, ![64, 100]⟩
abbrev S100 : Shape := ⟨1, ![100]⟩
abbrev S16384x64 : Shape := ⟨2, ![16384, 64]⟩
abbrev S1x64 : Shape := ⟨2, ![1, 64]⟩
abbrev S_ : Shape := ⟨0, ![]⟩
abbrev S16384x100 : Shape := ⟨2, ![16384, 100]⟩
abbrev S1x100 : Shape := ⟨2, ![1, 100]⟩
abbrev S16384x1 : Shape := ⟨2, ![16384, 1]⟩
abbrev S16384x2 : Shape := ⟨2, ![16384, 2]⟩

abbrev nBuf : Space → Nat
  | .hbm => 105
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384, .i32⟩
  | .hbm, ⟨2, _⟩ => ⟨S32x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x100, .f32⟩
  | .hbm, ⟨15, _⟩ => ⟨S100, .f32⟩
  | .hbm, ⟨16, _⟩ => ⟨S16384x64, .f32⟩
  | .hbm, ⟨17, _⟩ => ⟨S1x64, .f32⟩
  | .hbm, ⟨18, _⟩ => ⟨S16384x64, .f32⟩
  | .hbm, ⟨19, _⟩ => ⟨S16384x64, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S1x64, .f32⟩
  | .hbm, ⟨28, _⟩ => ⟨S16384x64, .f32⟩
  | .hbm, ⟨29, _⟩ => ⟨S16384x64, .f32⟩
  | .hbm, ⟨30, _⟩ => ⟨S1x64, .f32⟩
  | .hbm, ⟨31, _⟩ => ⟨S16384x64, .f32⟩
  | .hbm, ⟨32, _⟩ => ⟨S16384x64, .f32⟩
  | .hbm, ⟨33, _⟩ => ⟨S1x64, .f32⟩
  | .hbm, ⟨34, _⟩ => ⟨S16384x64, .f32⟩
  | .hbm, ⟨35, _⟩ => ⟨S16384x64, .f32⟩
  | .hbm, ⟨36, _⟩ => ⟨S_, .f32⟩
  | .hbm, ⟨37, _⟩ => ⟨S16384x64, .f32⟩
  | .hbm, ⟨38, _⟩ => ⟨S16384x64, .f32⟩
  | .hbm, ⟨39, _⟩ => ⟨S16384x64, .f32⟩
  | .hbm, ⟨40, _⟩ => ⟨S1x64, .f32⟩
  | .hbm, ⟨41, _⟩ => ⟨S16384x64, .f32⟩
  | .hbm, ⟨42, _⟩ => ⟨S16384x64, .f32⟩
  | .hbm, ⟨43, _⟩ => ⟨S1x64, .f32⟩
  | .hbm, ⟨44, _⟩ => ⟨S16384x64, .f32⟩
  | .hbm, ⟨45, _⟩ => ⟨S16384x64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S1x64, .f32⟩
  | .hbm, ⟨51, _⟩ => ⟨S16384x64, .f32⟩
  | .hbm, ⟨52, _⟩ => ⟨S16384x64, .f32⟩
  | .hbm, ⟨53, _⟩ => ⟨S1x64, .f32⟩
  | .hbm, ⟨54, _⟩ => ⟨S16384x64, .f32⟩
  | .hbm, ⟨55, _⟩ => ⟨S16384x64, .f32⟩
  | .hbm, ⟨56, _⟩ => ⟨S1x64, .f32⟩
  | .hbm, ⟨57, _⟩ => ⟨S16384x64, .f32⟩
  | .hbm, ⟨58, _⟩ => ⟨S16384x64, .f32⟩
  | .hbm, ⟨59, _⟩ => ⟨S_, .f32⟩
  | .hbm, ⟨60, _⟩ => ⟨S16384x64, .f32⟩
  | .hbm, ⟨61, _⟩ => ⟨S16384x64, .f32⟩
  | .hbm, ⟨62, _⟩ => ⟨S16384x100, .f32⟩
  | .hbm, ⟨63, _⟩ => ⟨S1x100, .f32⟩
  | .hbm, ⟨64, _⟩ => ⟨S16384x100, .f32⟩
  | .hbm, ⟨65, _⟩ => ⟨S16384x100, .f32⟩
  | .hbm, ⟨66, _⟩ => ⟨S_, .f32⟩
  | .hbm, ⟨67, _⟩ => ⟨S16384, .f32⟩
  | .hbm, ⟨68, _⟩ => ⟨S_, .f32⟩
  | .hbm, ⟨69, _⟩ => ⟨S16384, .f32⟩
  | .hbm, ⟨70, _⟩ => ⟨S16384, .f32⟩
  | .hbm, ⟨71, _⟩ => ⟨S16384x1, .f32⟩
  | .hbm, ⟨72, _⟩ => ⟨S16384x100, .f32⟩
  | .hbm, ⟨73, _⟩ => ⟨S16384x100, .f32⟩
  | .hbm, ⟨74, _⟩ => ⟨S16384x100, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S16384x1, .f32⟩
  | .hbm, ⟨79, _⟩ => ⟨S16384x100, .f32⟩
  | .hbm, ⟨80, _⟩ => ⟨S16384x100, .f32⟩
  | .hbm, ⟨81, _⟩ => ⟨S16384, .i32⟩
  | .hbm, ⟨82, _⟩ => ⟨S_, .i32⟩
  | .hbm, ⟨83, _⟩ => ⟨S16384, .i32⟩
  | .hbm, ⟨84, _⟩ => ⟨S16384, .i1⟩
  | .hbm, ⟨85, _⟩ => ⟨S_, .i32⟩
  | .hbm, ⟨86, _⟩ => ⟨S16384, .i32⟩
  | .hbm, ⟨87, _⟩ => ⟨S16384, .i32⟩
  | .hbm, ⟨88, _⟩ => ⟨S16384, .i32⟩
  | .hbm, ⟨89, _⟩ => ⟨S_, .i32⟩
  | .hbm, ⟨90, _⟩ => ⟨S16384, .i32⟩
  | .hbm, ⟨91, _⟩ => ⟨S16384, .i1⟩
  | .hbm, ⟨92, _⟩ => ⟨S_, .i32⟩
  | .hbm, ⟨93, _⟩ => ⟨S16384, .i32⟩
  | .hbm, ⟨94, _⟩ => ⟨S16384, .i32⟩
  | .hbm, ⟨95, _⟩ => ⟨S16384, .i32⟩
  | .hbm, ⟨96, _⟩ => ⟨S16384x1, .i32⟩
  | .hbm, ⟨97, _⟩ => ⟨S16384x1, .i32⟩
  | .hbm, ⟨98, _⟩ => ⟨S16384x2, .i32⟩
  | .hbm, ⟨99, _⟩ => ⟨S16384, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_cst : Ref sig .tc := ⟨.hbm, 59, rfl⟩
abbrev main_call1_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call2_cst : Ref sig .tc := ⟨.hbm, 66, rfl⟩
abbrev main_call2_v0 : Ref sig .tc := ⟨.hbm, 67, rfl⟩
abbrev main_call2_cst_0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_cst_1 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_v44 : Ref sig .tc := ⟨.hbm, 80, rfl⟩
abbrev main_v45 : Ref sig .tc := ⟨.hbm, 81, rfl⟩
abbrev main_c : Ref sig .tc := ⟨.hbm, 82, rfl⟩
abbrev main_v46 : Ref sig .tc := ⟨.hbm, 83, rfl⟩
abbrev main_v47 : Ref sig .tc := ⟨.hbm, 84, rfl⟩
abbrev main_c_1 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_2 : Ref sig .tc := ⟨.hbm, 89, rfl⟩
abbrev main_v51 : Ref sig .tc := ⟨.hbm, 90, rfl⟩
abbrev main_v52 : Ref sig .tc := ⟨.hbm, 91, rfl⟩
abbrev main_c_3 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_4 : Ref sig .tc := ⟨.hbm, 100, rfl⟩
abbrev main_v60 : Ref sig .tc := ⟨.hbm, 101, rfl⟩
abbrev main_cst_5 : Ref sig .tc := ⟨.hbm, 102, rfl⟩
abbrev main_v61 : Ref sig .tc := ⟨.hbm, 103, rfl⟩
abbrev main_v62 : Ref sig .tc := ⟨.hbm, 104, rfl⟩

abbrev nD : Nat := 1
abbrev τ : Topo := Topo.v7x

variable {F : FTy → Type} [FloatOps F]
-- ==== Proof.KernelRun.lean ====
/- The kernel's run, read down to one pure term: the scalar that its one grid point leaves in the 1x1 output block is
   `Loss.lossAt` of the sixteen arguments, the block is the whole output array, and the host line after the region
   reshapes that array into the result. -/
module

public import proofs.«01_k».proof.Defs
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Loss

open Idealize.ShloMosaic Idealize.ShloMosaic.TcCoe Idealize.ShloMosaic.Tactic
open Idealize.ShloMosaic.Pipeline (Dat Cfg Window)
open Cert.KernelIdeal Cert.KernelIdeal.Gen

/-! ## The value as a pure term of the arguments -/

/-- A vector of 64 parameters as the kernel is handed it: one row of 64. -/
abbrev row64 (v : FVec Ideal S64 .f32) : FVec Ideal S1x64 .f32 := shapeCast S1x64 v shapeCasts_S64_S1x64

/-- The 104 padded logits of every example, classes down the rows, from the arguments of the program. -/
def logits (x : FVec Ideal S16384x32 .f32) (W1 : FVec Ideal S32x64 .f32) (b1 g1 be1 rm1 rv1 : FVec Ideal S64 .f32)
    (W2 : FVec Ideal S64x64 .f32) (b2 g2 be2 rm2 rv2 : FVec Ideal S64 .f32)
    (W3 : FVec Ideal S64x100 .f32) (b3 : FVec Ideal S100 .f32) : FVec Ideal S104x16384 .f32 :=
  k0_pay7 (k0_pay3 (row64 g1) (row64 rv1)) (k0_pay4 (row64 g1) (row64 rv1) (row64 b1) (row64 rm1) (row64 be1))
    (k0_pay5 (row64 g2) (row64 rv2)) (k0_pay6 (row64 b2) (row64 rm2)) (row64 be2) W1 W2
    (transpose S32x16384 [1, 0] x transposes_S16384x32_S32x16384_1_0) W3 (shapeCast S1x100 b3 shapeCasts_S100_S1x100)

/-- The largest of each example's padded logits, as one row. -/
def rowMax (L : FVec Ideal S104x16384 .f32) : FVec Ideal S1x16384 .f32 :=
  shapeCast S1x16384 (multiReduction .maximumf [0] S16384 L 0xFF800000#32 reduces_S104x16384_S16384 (.inl rfl) rfl)
    shapeCasts_S16384_S1x16384

/-- The loss the kernel's body stores last, from the padded logits `L` and the class words `t`. -/
def lossOf (L : FVec Ideal S104x16384 .f32) (t : IVec S16384 32) : Ideal .f32 :=
  k0_pay2 (k0_pay1 L (rowMax L) (broadcastTo S104x16384 (rowMax L) broadcasts_S1x16384_S104x16384) t
    (FloatOps.ofBits (F := Ideal) .f32 0#32))

variable (m : (ℓ : Loc nD τ sig) → Buf (Elt Ideal) ℓ) (ρ : Dev nD → PrngReg)

/-- The padded logits from a memory's argument arrays. -/
def logitsAt (c : Dev nD) : FVec Ideal S104x16384 .f32 :=
  logits (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

/-- The loss from a memory's argument arrays. -/
def lossAt (c : Dev nD) : Ideal .f32 := lossOf (logitsAt m c) (m ((c.tc : Thread nD τ).loc main_arg1))

/-! ## The blocks: each input window's block is its whole array -/

/-- Window 0 takes block zero at the grid's one point. -/
theorem index0 (t : Fin cfg0.N) : win0_0.index t = ![0, 0] := by revert t; decide +kernel
/-- Window 0's block is argument 0, laid out by the host line before the region. -/
theorem block0 (c : Dev nD) (t : Fin cfg0.N) : (iblk m c 0 t : Vec Ideal S32x16384 .f32)
    = transpose S32x16384 [1, 0] (m ((c.tc : Thread nD τ).loc main_arg0)) transposes_S16384x32_S32x16384_1_0 := by
  have h : V m c (Pipeline.arrRef spec0 0)
      = transpose S32x16384 [1, 0] (m ((c.tc : Thread nD τ).loc main_arg0)) transposes_S16384x32_S32x16384_1_0 := by
    show StableHlo.after hostOps0 (fun b => m (c, b)) (Proc.devRef .tc main_v0) = _
    after_results
  funext j
  unfold iblk
  rw [h]
  blk_ext! [index0]

/-- Window 1 takes block zero at the grid's one point. -/
theorem index1 (t : Fin cfg0.N) : win0_1.index t = ![0] := by revert t; decide +kernel
/-- Window 1's block is argument 1. -/
theorem block1 (c : Dev nD) (t : Fin cfg0.N) : (iblk m c 1 t : Vec Ideal S16384 .i32) = m ((c.tc : Thread nD τ).loc main_arg1) := by
  funext j
  unfold iblk
  rw [show V m c (Pipeline.arrRef spec0 1) = _ from V_main_arg1 m c]
  blk_ext! [index1]

/-- Window 2 takes block zero at the grid's one point. -/
theorem index2 (t : Fin cfg0.N) : win0_2.index t = ![0, 0] := by revert t; decide +kernel
/-- Window 2's block is argument 2. -/
theorem block2 (c : Dev nD) (t : Fin cfg0.N) : (iblk m c 2 t : Vec Ideal S32x64 .f32) = m ((c.tc : Thread nD τ).loc main_arg2) := by
  funext j
  unfold iblk
  rw [show V m c (Pipeline.arrRef spec0 2) = _ from V_main_arg2 m c]
  blk_ext! [index2]

/-- Window 3 takes block zero at the grid's one point. -/
theorem index3 (t : Fin cfg0.N) : win0_3.index t = ![0, 0] := by revert t; decide +kernel
/-- Window 3's block is argument 3, laid out by the host line before the region. -/
theorem block3 (c : Dev nD) (t : Fin cfg0.N) : (iblk m c 3 t : Vec Ideal S1x64 .f32)
    = row64 (m ((c.tc : Thread nD τ).loc main_arg3)) := by
  have h : V m c (Pipeline.arrRef spec0 3)
      = row64 (m ((c.tc : Thread nD τ).loc main_arg3)) := by
    show StableHlo.after hostOps0 (fun b => m (c, b)) (Proc.devRef .tc main_v1) = _
    after_results
    rfl
  funext j
  unfold iblk
  rw [h]
  blk_ext! [index3]

/-- Window 4 takes block zero at the grid's one point. -/
theorem index4 (t : Fin cfg0.N) : win0_4.index t = ![0, 0] := by revert t; decide +kernel
/-- Window 4's block is argument 4, laid out by the host line before the region. -/
theorem block4 (c : Dev nD) (t : Fin cfg0.N) : (iblk m c 4 t : Vec Ideal S1x64 .f32)
    = row64 (m ((c.tc : Thread nD τ).loc main_arg4)) := by
  have h : V m c (Pipeline.arrRef spec0 4)
      = row64 (m ((c.tc : Thread nD τ).loc main_arg4)) := by
    show StableHlo.after hostOps0 (fun b => m (c, b)) (Proc.devRef .tc main_v2) = _
    after_results
    rfl
  funext j
  unfold iblk
  rw [h]
  blk_ext! [index4]

/-- Window 5 takes block zero at the grid's one point. -/
theorem index5 (t : Fin cfg0.N) : win0_5.index t = ![0, 0] := by revert t; decide +kernel
/-- Window 5's block is argument 5, laid out by the host line before the region. -/
theorem block5 (c : Dev nD) (t : Fin cfg0.N) : (iblk m c 5 t : Vec Ideal S1x64 .f32)
    = row64 (m ((c.tc : Thread nD τ).loc main_arg5)) := by
  have h : V m c (Pipeline.arrRef spec0 5)
      = row64 (m ((c.tc : Thread nD τ).loc main_arg5)) := by
    show StableHlo.after hostOps0 (fun b => m (c, b)) (Proc.devRef .tc main_v3) = _
    after_results
    rfl
  funext j
  unfold iblk
  rw [h]
  blk_ext! [index5]

/-- Window 6 takes block zero at the grid's one point. -/
theorem index6 (t : Fin cfg0.N) : win0_6.index t = ![0, 0] := by revert t; decide +kernel
/-- Window 6's block is argument 6, laid out by the host line before the region. -/
theorem block6 (c : Dev nD) (t : Fin cfg0.N) : (iblk m c 6 t : Vec Ideal S1x64 .f32)
    = row64 (m ((c.tc : Thread nD τ).loc main_arg6)) := by
  have h : V m c (Pipeline.arrRef spec0 6)
      = row64 (m ((c.tc : Thread nD τ).loc main_arg6)) := by
    show StableHlo.after hostOps0 (fun b => m (c, b)) (Proc.devRef .tc main_v4) = _
    after_results
    rfl
  funext j
  unfold iblk
  rw [h]
  blk_ext! [index6]

/-- Window 7 takes block zero at the grid's one point. -/
theorem index7 (t : Fin cfg0.N) : win0_7.index t = ![0, 0] := by revert t; decide +kernel
/-- Window 7's block is argument 7, laid out by the host line before the region. -/
theorem block7 (c : Dev nD) (t : Fin cfg0.N) : (iblk m c 7 t : Vec Ideal S1x64 .f32)
    = row64 (m ((c.tc : Thread nD τ).loc main_arg7)) := by
  have h : V m c (Pipeline.arrRef spec0 7)
      = row64 (m ((c.tc : Thread nD τ).loc main_arg7)) := by
    show StableHlo.after hostOps0 (fun b => m (c, b)) (Proc.devRef .tc main_v5) = _
    after_results
    rfl
  funext j
  unfold iblk
  rw [h]
  blk_ext! [index7]

/-- Window 8 takes block zero at the grid's one point. -/
theorem index8 (t : Fin cfg0.N) : win0_8.index t = ![0, 0] := by revert t; decide +kernel
/-- Window 8's block is argument 8. -/
theorem block8 (c : Dev nD) (t : Fin cfg0.N) : (iblk m c 8 t : Vec Ideal S64x64 .f32) = m ((c.tc : Thread nD τ).loc main_arg8) := by
  funext j
  unfold iblk
  rw [show V m c (Pipeline.arrRef spec0 8) = _ from V_main_arg8 m c]
  blk_ext! [index8]

/-- Window 9 takes block zero at the grid's one point. -/
theorem index9 (t : Fin cfg0.N) : win0_9.index t = ![0, 0] := by revert t; decide +kernel
/-- Window 9's block is argument 9, laid out by the host line before the region. -/
theorem block9 (c : Dev nD) (t : Fin cfg0.N) : (iblk m c 9 t : Vec Ideal S1x64 .f32)
    = row64 (m ((c.tc : Thread nD τ).loc main_arg9)) := by
  have h : V m c (Pipeline.arrRef spec0 9)
      = row64 (m ((c.tc : Thread nD τ).loc main_arg9)) := by
    show StableHlo.after hostOps0 (fun b => m (c, b)) (Proc.devRef .tc main_v6) = _
    after_results
    rfl
  funext j
  unfold iblk
  rw [h]
  blk_ext! [index9]

/-- Window 10 takes block zero at the grid's one point. -/
theorem index10 (t : Fin cfg0.N) : win0_10.index t = ![0, 0] := by revert t; decide +kernel
/-- Window 10's block is argument 10, laid out by the host line before the region. -/
theorem block10 (c : Dev nD) (t : Fin cfg0.N) : (iblk m c 10 t : Vec Ideal S1x64 .f32)
    = row64 (m ((c.tc : Thread nD τ).loc main_arg10)) := by
  have h : V m c (Pipeline.arrRef spec0 10)
      = row64 (m ((c.tc : Thread nD τ).loc main_arg10)) := by
    show StableHlo.after hostOps0 (fun b => m (c, b)) (Proc.devRef .tc main_v7) = _
    after_results
    rfl
  funext j
  unfold iblk
  rw [h]
  blk_ext! [index10]

/-- Window 11 takes block zero at the grid's one point. -/
theorem index11 (t : Fin cfg0.N) : win0_11.index t = ![0, 0] := by revert t; decide +kernel
/-- Window 11's block is argument 11, laid out by the host line before the region. -/
theorem block11 (c : Dev nD) (t : Fin cfg0.N) : (iblk m c 11 t : Vec Ideal S1x64 .f32)
    = row64 (m ((c.tc : Thread nD τ).loc main_arg11)) := by
  have h : V m c (Pipeline.arrRef spec0 11)
      = row64 (m ((c.tc : Thread nD τ).loc main_arg11)) := by
    show StableHlo.after hostOps0 (fun b => m (c, b)) (Proc.devRef .tc main_v8) = _
    after_results
    rfl
  funext j
  unfold iblk
  rw [h]
  blk_ext! [index11]

/-- Window 12 takes block zero at the grid's one point. -/
theorem index12 (t : Fin cfg0.N) : win0_12.index t = ![0, 0] := by revert t; decide +kernel
/-- Window 12's block is argument 12, laid out by the host line before the region. -/
theorem block12 (c : Dev nD) (t : Fin cfg0.N) : (iblk m c 12 t : Vec Ideal S1x64 .f32)
    = row64 (m ((c.tc : Thread nD τ).loc main_arg12)) := by
  have h : V m c (Pipeline.arrRef spec0 12)
      = row64 (m ((c.tc : Thread nD τ).loc main_arg12)) := by
    show StableHlo.after hostOps0 (fun b => m (c, b)) (Proc.devRef .tc main_v9) = _
    after_results
    rfl
  funext j
  unfold iblk
  rw [h]
  blk_ext! [index12]

/-- Window 13 takes block zero at the grid's one point. -/
theorem index13 (t : Fin cfg0.N) : win0_13.index t = ![0, 0] := by revert t; decide +kernel
/-- Window 13's block is argument 13, laid out by the host line before the region. -/
theorem block13 (c : Dev nD) (t : Fin cfg0.N) : (iblk m c 13 t : Vec Ideal S1x64 .f32)
    = row64 (m ((c.tc : Thread nD τ).loc main_arg13)) := by
  have h : V m c (Pipeline.arrRef spec0 13)
      = row64 (m ((c.tc : Thread nD τ).loc main_arg13)) := by
    show StableHlo.after hostOps0 (fun b => m (c, b)) (Proc.devRef .tc main_v10) = _
    after_results
    rfl
  funext j
  unfold iblk
  rw [h]
  blk_ext! [index13]

/-- Window 14 takes block zero at the grid's one point. -/
theorem index14 (t : Fin cfg0.N) : win0_14.index t = ![0, 0] := by revert t; decide +kernel
/-- Window 14's block is argument 14. -/
theorem block14 (c : Dev nD) (t : Fin cfg0.N) : (iblk m c 14 t : Vec Ideal S64x100 .f32) = m ((c.tc : Thread nD τ).loc main_arg14) := by
  funext j
  unfold iblk
  rw [show V m c (Pipeline.arrRef spec0 14) = _ from V_main_arg14 m c]
  blk_ext! [index14]

/-- Window 15 takes block zero at the grid's one point. -/
theorem index15 (t : Fin cfg0.N) : win0_15.index t = ![0, 0] := by revert t; decide +kernel
/-- Window 15's block is argument 15, laid out by the host line before the region. -/
theorem block15 (c : Dev nD) (t : Fin cfg0.N) : (iblk m c 15 t : Vec Ideal S1x100 .f32)
    = shapeCast S1x100 (m ((c.tc : Thread nD τ).loc main_arg15)) shapeCasts_S100_S1x100 := by
  have h : V m c (Pipeline.arrRef spec0 15)
      = shapeCast S1x100 (m ((c.tc : Thread nD τ).loc main_arg15)) shapeCasts_S100_S1x100 := by
    show StableHlo.after hostOps0 (fun b => m (c, b)) (Proc.devRef .tc main_v11) = _
    after_results
    rfl
  funext j
  unfold iblk
  rw [h]
  blk_ext! [index15]

/-! ## The output array and the result -/

/-- The output array after the run holds the loss at its one element. -/
theorem arr_eq (c : Dev nD) : (dats m 0 c).arrAt 16 cfg0.N = fun _ => lossAt m c := by
  refine (dats m 0 c).arrAt_eq_of_covers 16 _ (by decide +kernel) fun t hf y => ?_
  blk_simp
  rw [after0_16]
  unfold outsAt0
  frame_out
  rw [block0, block1, block2, block3, block4, block5, block6, block7, block8, block9, block10, block11, block12, block13, block14, block15]
  rfl

/-- The result buffer after the host line that follows the region: the output array's one element. -/
theorem tail_eq (c : Dev nD) :
    Pipeline.afterTail₀ cfgs (dats m) 0 (V0 m) [hostOps1] c main_v13 = fun _ => lossAt m c := by
  have e : (Pipeline.withArrays (cfgs 0).spec c (V0 m c) fun w => (dats m 0 c).arrAt w (cfgs 0).N) (Proc.devRef .tc main_v12)
      = fun _ => lossAt m c :=
    (Pipeline.withArrays_arr (cfgs 0).spec launch0.win.arr_inj c (V0 m c) _ 16).trans (arr_eq m c)
  show StableHlo.after hostOps1
    (Pipeline.withArrays (cfgs 0).spec c (V0 m c) fun w => (dats m 0 c).arrAt w (cfgs 0).N) (Proc.devRef .tc main_v13) = _
  after_results
  rw [e]
  rfl

/-- The run of the idealized kernel: the result holds the loss, and the argument arrays end as launched. -/
theorem run : θ_run defs (onTc (τ := τ) (main (F := Ideal))) ⟨m, fun _ => 0, ρ⟩ fun r => ∀ c : Dev nD,
      r.2.mem ((c.tc : Thread nD τ).loc main_v13) = (fun _ => lossAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  run_from (Gen.run_main m ρ) & (Gen.unchanged m ρ)
  exact tail_eq m c

end Cert.KernelIdeal.Loss

end
-- ==== Proof.Spec.lean ====
/- The network and its loss over the real numbers, and the scalar facts about the extended reals that both programs'
   values are brought to it by. Nothing here names a program. -/
module

public import Idealize.ShloMosaic.PureOps.Ideal
public import Idealize.ShloMosaic.Lib.Pointwise
public import Idealize.ShloMosaic.Init

@[expose] public section

set_option maxRecDepth 16384

noncomputable section

namespace Cert.Net

open Idealize.ShloMosaic

/-! ## The network over the reals -/

/-- The real inputs: the examples, and per layer the weights, the bias and the normalization's scale, shift, running
    mean and reciprocal standard deviation. -/
structure Params where
  x : Fin 16384 → Fin 32 → ℝ
  W1 : Fin 32 → Fin 64 → ℝ
  b1 : Fin 64 → ℝ
  g1 : Fin 64 → ℝ
  be1 : Fin 64 → ℝ
  rm1 : Fin 64 → ℝ
  s1 : Fin 64 → ℝ
  W2 : Fin 64 → Fin 64 → ℝ
  b2 : Fin 64 → ℝ
  g2 : Fin 64 → ℝ
  be2 : Fin 64 → ℝ
  rm2 : Fin 64 → ℝ
  s2 : Fin 64 → ℝ
  W3 : Fin 64 → Fin 100 → ℝ
  b3 : Fin 100 → ℝ

/-- One unit of a hidden layer: a weighted sum with bias, batch normalization with running statistics, positive part. -/
def unit {n : ℕ} (x W : Fin n → ℝ) (b g be rm s : ℝ) : ℝ := max ((∑ k, x k * W k + b - rm) * s * g + be) 0

namespace Params

/-- The first hidden layer at example `r`. -/
def hidden1 (p : Params) (r : Fin 16384) (j : Fin 64) : ℝ :=
  unit (p.x r) (fun k => p.W1 k j) (p.b1 j) (p.g1 j) (p.be1 j) (p.rm1 j) (p.s1 j)

/-- The second hidden layer at example `r`. -/
def hidden2 (p : Params) (r : Fin 16384) (j : Fin 64) : ℝ :=
  unit (p.hidden1 r) (fun k => p.W2 k j) (p.b2 j) (p.g2 j) (p.be2 j) (p.rm2 j) (p.s2 j)

/-- The logit of class `c` at example `r`. -/
def logit (p : Params) (r : Fin 16384) (c : Fin 100) : ℝ := ∑ k, p.hidden2 r k * p.W3 k c + p.b3 c

end Params

/-- The largest of 100 logits. -/
def top (Z : Fin 100 → ℝ) : ℝ := Finset.univ.sup' ⟨0, Finset.mem_univ 0⟩ Z

/-- The logarithm of the sum of the exponentials of the logits, each less the largest. -/
def logSum (Z : Fin 100 → ℝ) : ℝ := Real.log (∑ c, Real.exp (Z c - top Z))

/-- The loss of logits `Z` and classes `t`: less the mean of the log-probabilities of the classes. -/
def loss (Z : Fin 16384 → Fin 100 → ℝ) (t : Fin 16384 → Fin 100) : ℝ :=
  -((∑ r, (Z r (t r) - top (Z r) - logSum (Z r))) * (1 / 16384))

/-! ## Constants -/

/-- The pattern of minus infinity. -/
theorem bits_neg_inf : Ideal.ofBits .f32 4286578688#32 = (⊥ : EReal) := by simp [Ideal.ofBits, Ideal.ieee]

/-- The pattern of plus infinity. -/
theorem bits_inf : Ideal.ofBits .f32 2139095040#32 = (⊤ : EReal) := by simp [Ideal.ofBits, Ideal.ieee]

/-- The pattern of 16384. -/
theorem bits_count : Ideal.ofBits .f32 1182793728#32 = ((16384 : ℝ) : EReal) := by
  simp [Ideal.ofBits, Ideal.ieee, -EReal.coe_mul]; norm_num

/-- The pattern of −1/16384. -/
theorem bits_scale : Ideal.ofBits .f32 3095396352#32 = ((-(1 / 16384) : ℝ) : EReal) := by
  simp [Ideal.ofBits, Ideal.ieee, -EReal.coe_mul]; norm_num

/-! ## Sums and maxima of reals among the extended reals -/

/-- A finite sum of reals is the same sum among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The larger of a real and zero is the same among the extended reals. -/
theorem coe_max_zero (a : ℝ) : max (a : EReal) 0 = ((max a 0 : ℝ) : EReal) := by
  rw [← EReal.coe_zero]
  exact (EReal.coe_strictMono.monotone.map_max).symm

/-- A maximum over a finite family that starts from minus infinity is the family's greatest value. -/
theorem fold_max_eq {n : ℕ} (f : Fin n → EReal) (M : EReal) (hle : ∀ i, f i ≤ M) (hat : ∃ i, f i = M) :
    Finset.fold max ⊥ f Finset.univ = M := by
  apply le_antisymm
  · rw [Finset.fold_max_le]
    exact ⟨bot_le, fun i _ => hle i⟩
  · obtain ⟨i, hi⟩ := hat
    rw [Finset.le_fold_max]
    exact Or.inr ⟨i, Finset.mem_univ i, hi.ge⟩

/-! ## The reciprocal standard deviation -/

/-- Over a positive variance (plus infinity among them) the reciprocal square root is a real number, and dividing by
    the square root multiplies by it. -/
theorem invStd {v : EReal} (h : 0 < v) :
    ∃ s : ℝ, Ideal.rsqrt v = (s : EReal) ∧ ∀ y : EReal, Ideal.div y (Ideal.sqrt v) = y * (s : EReal) := by
  induction v using EReal.rec with
  | bot => exact absurd h (by simp)
  | top => exact ⟨0, by simp, fun y => by simp [Ideal.div]⟩
  | coe r =>
    have hr : 0 < r := EReal.coe_pos.1 h
    have hs : (0 : ℝ) < Real.sqrt r := Real.sqrt_pos.2 hr
    refine ⟨(Real.sqrt r)⁻¹, by simp [hr.not_gt, hr.ne'], fun y => ?_⟩
    rw [Ideal.sqrt_coe, if_neg hr.not_gt, Ideal.div, if_neg (by exact_mod_cast hs.ne'), EReal.coe_inv]

/-! ## One unit of a hidden layer, in both programs' forms -/

/-- With the normalization folded into the weights and the bias. -/
theorem unit_folded {n : ℕ} (x W : Fin n → ℝ) (b g be rm s : ℝ) :
    max (∑ k, (W k : EReal) * ((g : EReal) * s) * x k + (((b : EReal) - rm) * ((g : EReal) * s) + be)) 0
      = ((unit x W b g be rm s : ℝ) : EReal) := by
  simp only [← EReal.coe_mul, ← EReal.coe_sub, ← EReal.coe_add, coe_sum, coe_max_zero]
  congr 2
  have e : ∑ k, W k * (g * s) * x k = (∑ k, x k * W k) * (s * g) := by
    rw [Finset.sum_mul]; exact Finset.sum_congr rfl fun k _ => by ring
  rw [e]; ring

/-- With the normalization after the weighted sum. -/
theorem unit_plain {n : ℕ} (x W : Fin n → ℝ) (b g be rm s : ℝ) (v : EReal)
    (hv : ∀ y : EReal, Ideal.div y v = y * (s : EReal)) :
    max (Ideal.div (∑ k, (x k : EReal) * W k + b - rm) v * g + be) 0 = ((unit x W b g be rm s : ℝ) : EReal) := by
  simp only [hv, ← EReal.coe_mul, ← EReal.coe_sub, ← EReal.coe_add, coe_sum, coe_max_zero]
  rfl

/-- One logit. -/
theorem logit_coe (h W : Fin 64 → ℝ) (b : ℝ) :
    ∑ k, (h k : EReal) * W k + b = ((∑ k, h k * W k + b : ℝ) : EReal) := by
  simp only [← EReal.coe_mul, ← EReal.coe_add, coe_sum]

/-! ## The largest logit and the sum of exponentials -/

/-- Each logit is at most the largest. -/
theorem le_top (Z : Fin 100 → ℝ) (c : Fin 100) : Z c ≤ top Z := Finset.le_sup' Z (Finset.mem_univ c)

/-- Some logit is the largest. -/
theorem exists_top (Z : Fin 100 → ℝ) : ∃ c, Z c = top Z := by
  obtain ⟨c, _, h⟩ := Finset.exists_mem_eq_sup' ⟨0, Finset.mem_univ 0⟩ Z
  exact ⟨c, h.symm⟩

/-- The logits of one example followed by four entries of minus infinity. -/
def padded (Z : Fin 100 → ℝ) (c : Fin 104) : EReal := if h : c.val < 100 then ((Z ⟨c.val, h⟩ : ℝ) : EReal) else ⊥

/-- The largest of the logits. -/
theorem fold_max_logits (Z : Fin 100 → ℝ) :
    Finset.fold max ⊥ (fun c => (Z c : EReal)) Finset.univ = ((top Z : ℝ) : EReal) :=
  fold_max_eq _ _ (fun c => EReal.coe_le_coe_iff.2 (le_top Z c)) ((exists_top Z).imp fun c h => by rw [h])

/-- The largest of the padded logits is the largest of the logits. -/
theorem fold_max_padded (Z : Fin 100 → ℝ) :
    Finset.fold max ⊥ (padded Z) Finset.univ = ((top Z : ℝ) : EReal) := by
  refine fold_max_eq _ _ (fun c => ?_) ?_
  · unfold padded
    split
    · exact EReal.coe_le_coe_iff.2 (le_top Z _)
    · exact bot_le
  · obtain ⟨c, h⟩ := exists_top Z
    exact ⟨⟨c.val, by omega⟩, by unfold padded; rw [dif_pos c.isLt, h]⟩

/-- The sum of the exponentials of the logits less the largest is positive. -/
theorem sum_exp_pos (Z : Fin 100 → ℝ) : 0 < ∑ c, Real.exp (Z c - top Z) :=
  Finset.sum_pos (fun c _ => Real.exp_pos _) ⟨0, Finset.mem_univ 0⟩

/-- The logarithm of the sum of the exponentials of the logits less the largest. -/
theorem log_sum_logits (Z : Fin 100 → ℝ) :
    Ideal.log (∑ c, Ideal.exp ((Z c : EReal) - (top Z : ℝ))) = ((logSum Z : ℝ) : EReal) := by
  simp only [← EReal.coe_sub, Ideal.exp_coe, coe_sum, Ideal.log_coe]
  rw [if_neg (sum_exp_pos Z).not_ge]
  rfl

/-- The same over the padded logits: the four entries of minus infinity add nothing. -/
theorem log_sum_padded (Z : Fin 100 → ℝ) :
    Ideal.log (∑ c, Ideal.exp (padded Z c - (top Z : ℝ))) = ((logSum Z : ℝ) : EReal) := by
  rw [← log_sum_logits]
  refine congrArg Ideal.log ?_
  have e1 : ∀ i : Fin 100, padded Z (Fin.castAdd 4 i) = ((Z i : ℝ) : EReal) := fun i => by
    unfold padded; rw [dif_pos (by simp)]; rfl
  have e2 : ∀ i : Fin 4, padded Z (Fin.natAdd 100 i) = ⊥ := fun i => by
    unfold padded; rw [dif_neg (by simp)]
  refine (Fin.sum_univ_add (a := 100) (b := 4) fun c => Ideal.exp (padded Z c - (top Z : ℝ))).trans ?_
  simp only [e1, e2, EReal.bot_sub, Ideal.exp_bot, Finset.sum_const_zero, add_zero]

/-! ## The loss, in both programs' forms -/

/-- A difference of two sums, scaled by a negative number, as less a scaled sum of differences. -/
theorem scaled_sub {ι : Type} [Fintype ι] (z a b : ι → ℝ) (q : ℝ) :
    (∑ r, (z r : EReal) - ∑ r, ((a r : EReal) + (b r : EReal))) * ((-q : ℝ) : EReal)
      = ((-((∑ r, (z r - a r - b r)) * q) : ℝ) : EReal) := by
  simp only [← EReal.coe_add, coe_sum, ← EReal.coe_sub, ← EReal.coe_mul]
  rw [← Finset.sum_sub_distrib, mul_neg]
  congr 3
  exact Finset.sum_congr rfl fun r _ => by ring

/-- As a difference of two sums, scaled by minus one over the number of examples. -/
theorem loss_scaled (Z : Fin 16384 → Fin 100 → ℝ) (t : Fin 16384 → Fin 100) :
    (∑ r, ((Z r (t r) : ℝ) : EReal) - ∑ r, (((top (Z r) : ℝ) : EReal) + ((logSum (Z r) : ℝ) : EReal)))
      * Ideal.ofBits .f32 3095396352#32 = ((loss Z t : ℝ) : EReal) := by
  rw [bits_scale]
  exact scaled_sub (fun r => Z r (t r)) (fun r => top (Z r)) (fun r => logSum (Z r)) (1 / 16384)

/-- As less the quotient of the sum of the log-probabilities by the number of examples. -/
theorem loss_mean (Z : Fin 16384 → Fin 100 → ℝ) (t : Fin 16384 → Fin 100) :
    -Ideal.div (∑ r, (((Z r (t r) : ℝ) : EReal) - ((top (Z r) : ℝ) : EReal) - ((logSum (Z r) : ℝ) : EReal)))
      (Ideal.ofBits .f32 1182793728#32) = ((loss Z t : ℝ) : EReal) := by
  rw [bits_count, Ideal.div_coe (by norm_num)]
  simp only [← EReal.coe_sub, coe_sum, ← EReal.coe_mul, ← EReal.coe_neg]
  rfl

end Cert.Net
-- ==== Proof.Inputs.lean ====
/- The precondition read back: it makes every input but the running variances real, makes each variance plus the
   normalization's small constant positive, and puts every class word in range. From it, the real network's parameters. -/
module

public import proofs.«01_k».proof.Defs
public import proofs.«01_k».proof.Proof.Spec
public import Idealize.ShloMosaic.Lib.ReduceAll
public import Idealize.ShloMosaic.Lib.StableHlo.Predicate

@[expose] public section

set_option maxRecDepth 16384

noncomputable section

namespace Cert.Net

open Idealize.ShloMosaic

/-- The sixteen arrays hold the real parameters `p` and the classes `t`: the running variances through the reciprocal
    standard deviations, by which both programs read them. -/
structure Holds (p : Params) (t : Fin 16384 → Fin 100)
    (x : FVec Ideal ⟨2, ![16384, 32]⟩ .f32) (w : IVec ⟨1, ![16384]⟩ 32)
    (W1 : FVec Ideal ⟨2, ![32, 64]⟩ .f32) (b1 g1 be1 rm1 rv1 : FVec Ideal ⟨1, ![64]⟩ .f32)
    (W2 : FVec Ideal ⟨2, ![64, 64]⟩ .f32) (b2 g2 be2 rm2 rv2 : FVec Ideal ⟨1, ![64]⟩ .f32)
    (W3 : FVec Ideal ⟨2, ![64, 100]⟩ .f32) (b3 : FVec Ideal ⟨1, ![100]⟩ .f32) : Prop where
  x : ∀ r k, x (ix2 r k) = ((p.x r k : ℝ) : EReal)
  w : ∀ r, (w (ix1 r)).toNat = (t r).val
  W1 : ∀ k j, W1 (ix2 k j) = ((p.W1 k j : ℝ) : EReal)
  b1 : ∀ j, b1 (ix1 j) = ((p.b1 j : ℝ) : EReal)
  g1 : ∀ j, g1 (ix1 j) = ((p.g1 j : ℝ) : EReal)
  be1 : ∀ j, be1 (ix1 j) = ((p.be1 j : ℝ) : EReal)
  rm1 : ∀ j, rm1 (ix1 j) = ((p.rm1 j : ℝ) : EReal)
  rsqrt1 : ∀ j, Ideal.rsqrt (rv1 (ix1 j) + Ideal.ofBits .f32 925353388#32) = ((p.s1 j : ℝ) : EReal)
  div1 : ∀ j (y : EReal), Ideal.div y (Ideal.sqrt (rv1 (ix1 j) + Ideal.ofBits .f32 925353388#32)) = y * ((p.s1 j : ℝ) : EReal)
  W2 : ∀ k j, W2 (ix2 k j) = ((p.W2 k j : ℝ) : EReal)
  b2 : ∀ j, b2 (ix1 j) = ((p.b2 j : ℝ) : EReal)
  g2 : ∀ j, g2 (ix1 j) = ((p.g2 j : ℝ) : EReal)
  be2 : ∀ j, be2 (ix1 j) = ((p.be2 j : ℝ) : EReal)
  rm2 : ∀ j, rm2 (ix1 j) = ((p.rm2 j : ℝ) : EReal)
  rsqrt2 : ∀ j, Ideal.rsqrt (rv2 (ix1 j) + Ideal.ofBits .f32 925353388#32) = ((p.s2 j : ℝ) : EReal)
  div2 : ∀ j (y : EReal), Ideal.div y (Ideal.sqrt (rv2 (ix1 j) + Ideal.ofBits .f32 925353388#32)) = y * ((p.s2 j : ℝ) : EReal)
  W3 : ∀ k c, W3 (ix2 k c) = ((p.W3 k c : ℝ) : EReal)
  b3 : ∀ c, b3 (ix1 c) = ((p.b3 c : ℝ) : EReal)

/-! ## One condition at one element -/

/-- A number whose absolute value compares below plus infinity is real. -/
theorem real_of_abs_lt {a : EReal} (h : FloatOps.cmpf (F := Ideal) (φ := .f32) .olt
    (FloatOps.absf (F := Ideal) (φ := .f32) a) (FloatOps.ofBits .f32 2139095040#32) = 1#1) : ∃ r : ℝ, a = (r : EReal) := by
  rw [Ideal.ofBits_def, bits_inf] at h
  simp only [Ideal.cmpf_def, Ideal.absf_def] at h
  have hlt : max a (-a) < ⊤ := by
    rw [Ideal.cmp, StableHlo.Predicate.ofBool_eq_one_iff] at h
    exact of_decide_eq_true h
  obtain ⟨h1, h2⟩ := max_lt_iff.1 hlt
  refine ⟨a.toReal, (EReal.coe_toReal h1.ne ?_).symm⟩
  rintro rfl
  exact absurd h2 (by simp)

/-- A number that compares above zero is positive. -/
theorem pos_of_gt {a : EReal} (h : FloatOps.cmpf (F := Ideal) (φ := .f32) .ogt a (FloatOps.ofBits .f32 0#32) = 1#1) :
    0 < a := by
  rw [Ideal.ofBits_def, Ideal.ofBits_zero_f32] at h
  simp only [Ideal.cmpf_def] at h
  rw [Ideal.cmp, StableHlo.Predicate.ofBool_eq_one_iff] at h
  exact of_decide_eq_true h

/-- A word compared at least 0 and below 100 is a class. -/
theorem class_of_range {a : BitVec 32} (h0 : IntOp.cmpi .sge a 0#32 = 1#1) (h1 : IntOp.cmpi .slt a 100#32 = 1#1) :
    a.toNat < 100 := by
  have e0 := IntOp.cmpi_sge.1 h0
  have e1 := IntOp.cmpi_slt.1 h1
  rw [show (0#32 : BitVec 32).toInt = 0 from rfl] at e0
  rw [show (100#32 : BitVec 32).toInt = 100 from rfl] at e1
  rw [BitVec.toInt_eq_toNat_cond] at e0 e1
  split at e0 <;> omega

end Cert.Net

namespace Cert.Pre_finite_and_in_range

open Idealize.ShloMosaic Cert.Net

/-- The side conditions of the precondition's operations hold. -/
theorem facts : Facts := ⟨by decide, by decide, by decide, by decide, by decide, by decide, by decide, by decide,
  by decide, by decide, by decide, by decide, by decide, by decide, by decide⟩

/-- A condition asked of a whole array holds at each of its elements. -/
theorem each [Facts] {s : Shape} {axes : List (Fin s.rank)} {p : s.Idx → BitVec 1} {init : S_.Idx → BitVec 1}
    {hr : s.ReducesTo axes S_} {hu : 0 < S_.numel} {j : S_.Idx} (h : Host.reduce IntOp.andi p init hr hu j = 1#1)
    (i : s.Idx) : p i = 1#1 :=
  haveI : Subsingleton S_.Idx := ⟨fun _ _ => funext fun a => a.elim0⟩
  Host.reduce_andi_all p init hr hu j h i

/-- Arrays that satisfy the precondition hold real parameters and classes. -/
theorem holds [Facts] {a0 : FVec Ideal S16384x32 .f32} {a1 : IVec S16384 32} {a2 : FVec Ideal S32x64 .f32}
    {a3 a4 a5 a6 a7 : FVec Ideal S64 .f32} {a8 : FVec Ideal S64x64 .f32} {a9 a10 a11 a12 a13 : FVec Ideal S64 .f32}
    {a14 : FVec Ideal S64x100 .f32} {a15 : FVec Ideal S100 .f32}
    (h : fn (F := Ideal) a0 a1 a2 a3 a4 a5 a6 a7 a8 a9 a10 a11 a12 a13 a14 a15 = fun _ => 1#1) :
    ∃ p t, Holds p t a0 a1 a2 a3 a4 a5 a6 a7 a8 a9 a10 a11 a12 a13 a14 a15 := by
  have h := congrFun h (Shape.Idx.first Facts.h_S_)
  dsimp only [fn, fn_part1, fn_part2, fn_part3, fn_part4] at h
  simp only [andi_apply, IntOp.andi_eq_one] at h
  obtain ⟨⟨⟨⟨⟨⟨⟨⟨⟨⟨⟨⟨⟨⟨⟨⟨h0, h1⟩, h1'⟩, h2⟩, h3⟩, h4⟩, h5⟩, h6⟩, h7⟩, h8⟩, h9⟩, h10⟩, h11⟩, h12⟩, h13⟩, h14⟩, h15⟩ := h
  choose x hx using fun r k => real_of_abs_lt (each h0 (ix2 r k))
  have ht : ∀ r, (a1 (ix1 r)).toNat < 100 := fun r => class_of_range (each h1 (ix1 r)) (each h1' (ix1 r))
  choose W1 hW1 using fun k j => real_of_abs_lt (each h2 (ix2 k j))
  choose b1 hb1 using fun j => real_of_abs_lt (each h3 (ix1 j))
  choose g1 hg1 using fun j => real_of_abs_lt (each h4 (ix1 j))
  choose be1 hbe1 using fun j => real_of_abs_lt (each h5 (ix1 j))
  choose rm1 hrm1 using fun j => real_of_abs_lt (each h6 (ix1 j))
  choose s1 hs1 using fun j => invStd (pos_of_gt (each h7 (ix1 j)))
  choose W2 hW2 using fun k j => real_of_abs_lt (each h8 (ix2 k j))
  choose b2 hb2 using fun j => real_of_abs_lt (each h9 (ix1 j))
  choose g2 hg2 using fun j => real_of_abs_lt (each h10 (ix1 j))
  choose be2 hbe2 using fun j => real_of_abs_lt (each h11 (ix1 j))
  choose rm2 hrm2 using fun j => real_of_abs_lt (each h12 (ix1 j))
  choose s2 hs2 using fun j => invStd (pos_of_gt (each h13 (ix1 j)))
  choose W3 hW3 using fun k c => real_of_abs_lt (each h14 (ix2 k c))
  choose b3 hb3 using fun c => real_of_abs_lt (each h15 (ix1 c))
  exact ⟨⟨x, W1, b1, g1, be1, rm1, s1, W2, b2, g2, be2, rm2, s2, W3, b3⟩, fun r => ⟨_, ht r⟩,
    ⟨hx, fun _ => rfl, hW1, hb1, hg1, hbe1, hrm1, fun j => (hs1 j).1, fun j => (hs1 j).2,
      hW2, hb2, hg2, hbe2, hrm2, fun j => (hs2 j).1, fun j => (hs2 j).2, hW3, hb3⟩⟩

end Cert.Pre_finite_and_in_range
-- ==== Proof.KernelValue.lean ====
/- The kernel's loss under real parameters: the padded logits are the network's logits followed by four rows of minus
   infinity, and the loss of those is the network's loss. -/
module

public import proofs.«01_k».proof.Proof.KernelRun
public import proofs.«01_k».proof.Proof.Inputs
public import Idealize.ShloMosaic.Lib.Pointwise
public import Idealize.ShloMosaic.PureOps.IdealRules

@[expose] public section

set_option maxRecDepth 16384

noncomputable section

namespace Cert.KernelIdeal.Loss

open Idealize.ShloMosaic Idealize.ShloMosaic.TcCoe Idealize.ShloMosaic.Tactic
open Cert.KernelIdeal Cert.KernelIdeal.Gen Cert.Net

/-- The named constant that fills the padding classes' bias is minus infinity. -/
theorem mask_eq : (Named.named κ "mask" 4048155338#32 : Ideal .f32) = (⊥ : EReal) :=
  IdealRules.named_const.ideal_named_scalar _ _ _ _ rfl

/-- Entry `(c, r)` of the padded logits is the logit of class `c` at example `r`, and minus infinity from class 100 on. -/
theorem logits_eq {p : Params} {t : Fin 16384 → Fin 100} {x : FVec Ideal S16384x32 .f32} {w : IVec S16384 32}
    {W1 : FVec Ideal S32x64 .f32} {b1 g1 be1 rm1 rv1 : FVec Ideal S64 .f32} {W2 : FVec Ideal S64x64 .f32}
    {b2 g2 be2 rm2 rv2 : FVec Ideal S64 .f32} {W3 : FVec Ideal S64x100 .f32} {b3 : FVec Ideal S100 .f32}
    (h : Holds p t x w W1 b1 g1 be1 rm1 rv1 W2 b2 g2 be2 rm2 rv2 W3 b3) (c : Fin 104) (r : Fin 16384) :
    logits x W1 b1 g1 be1 rm1 rv1 W2 b2 g2 be2 rm2 rv2 W3 b3 (ix2 c r) = padded (p.logit r) c := by
  pointwise [logits, k0_pay3, k0_pay4, k0_pay5, k0_pay6, k0_pay7, row64]
  simp only [h.x, h.W1, h.b1, h.g1, h.be1, h.rm1, h.rsqrt1, h.W2, h.b2, h.g2, h.be2, h.rm2, h.rsqrt2, h.W3, h.b3,
    unit_folded, mask_eq]
  unfold padded
  by_cases hc : c.val < 100
  · simp only [dif_pos hc]
    have e := logit_coe (p.hidden2 r) (fun k => p.W3 k ⟨c.val, hc⟩) (p.b3 ⟨c.val, hc⟩)
    refine Eq.trans ?_ e
    refine congrArg₂ (· + ·) (Finset.sum_congr rfl fun k _ => ?_) rfl
    exact mul_comm _ _
  · simp only [dif_neg hc, EReal.add_bot]

/-- Down the rows of an example's padded logits, the one whose row number is the example's class word, and zero
    elsewhere: their sum is the logit of the class. -/
theorem sum_onehot (Z : Fin 100 → ℝ) {a : BitVec 32} {c : Fin 100} (h : a.toNat = c.val) :
    ∑ k : Fin 104, Scalar.select (IntOp.cmpi .eq (BitVec.ofNat 32 k.val) a) (padded Z k) 0 = ((Z c : ℝ) : EReal) := by
  have ha : a = BitVec.ofNat 32 c.val := by
    apply BitVec.eq_of_toNat_eq
    rw [h, BitVec.toNat_ofNat]
    omega
  rw [Finset.sum_eq_single (⟨c.val, by omega⟩ : Fin 104)]
  · have e : IntOp.cmpi .eq (BitVec.ofNat 32 c.val) a = 1#1 := StableHlo.Predicate.cmpi_eq_iff.2 ha.symm
    refine (if_pos e).trans ?_
    unfold padded
    exact dif_pos c.isLt
  · intro k _ hk
    refine if_neg fun e => hk (Fin.ext ?_)
    have e' : BitVec.ofNat 32 k.val = a := StableHlo.Predicate.cmpi_eq_iff.1 e
    have := congrArg BitVec.toNat e'
    rw [h, BitVec.toNat_ofNat] at this
    show k.val = c.val
    omega
  · exact fun hn => absurd (Finset.mem_univ _) hn

/-- The loss of padded logits is the network's loss. -/
theorem lossOf_eq {Z : Fin 16384 → Fin 100 → ℝ} {t : Fin 16384 → Fin 100} {L : FVec Ideal S104x16384 .f32}
    {w : IVec S16384 32} (hL : ∀ c r, L (ix2 c r) = padded (Z r) c) (hw : ∀ r, (w (ix1 r)).toNat = (t r).val) :
    lossOf L w = ((loss Z t : ℝ) : EReal) := by
  pointwise [lossOf, k0_pay1, k0_pay2, rowMax]
  simp only [hL, bits_neg_inf, fold_max_padded, log_sum_padded]
  rw [Finset.sum_comm]
  simp only [fun r => sum_onehot (Z r) (hw r)]
  rw [Fin.sum_univ_one]
  exact loss_scaled Z t

end Cert.KernelIdeal.Loss
-- ==== Proof.ReferenceTerm.lean ====
/- The reference's result as one pure term of its arguments, in the steps of its source: the two normalized layers, the
   logits, the logarithm of the softmax, the entry of each example's class, and less the mean of those. -/
module

public import proofs.«01_k».proof.Defs
public import proofs.«01_k».proof.Proof.Gen.ReferenceIdeal.Run
public import Idealize.ShloMosaic.Lib.Pointwise
@[expose] public section

set_option maxRecDepth 16384

noncomputable section

namespace Cert.ReferenceIdeal.Loss

open Idealize.ShloMosaic Idealize.ShloMosaic.TcCoe Idealize.ShloMosaic.Tactic
open Cert.ReferenceIdeal Cert.ReferenceIdeal.Gen

/-- A vector of 64 parameters, one copy for every example. -/
abbrev rows64 (v : FVec Ideal S64 .f32) : FVec Ideal S16384x64 .f32 :=
  broadcastInDim S16384x64 ![0, 1] bcast_S1x64_S16384x64_0_1 (broadcastInDim S1x64 ![1] bcast_S64_S1x64_1 v)

/-- Batch normalization with running statistics and then the positive part, of `y`. -/
def normRelu (y : FVec Ideal S16384x64 .f32) (b g be rm rv : FVec Ideal S64 .f32) : FVec Ideal S16384x64 .f32 :=
  maximumf (addf (mulf (Host.divf (subf (addf y (rows64 b)) (rows64 rm))
    (rows64 (Host.sqrt (addf rv (broadcastInDim S64 ![] bcast_S_S64 (constant S_ .f32 0x3727C5AC#32))))))
    (rows64 g)) (rows64 be)) (broadcastInDim S16384x64 ![] bcast_S_S16384x64 (constant S_ .f32 0x00000000#32))

/-- The reference's logits, one row per example. -/
def logits (x : FVec Ideal S16384x32 .f32) (W1 : FVec Ideal S32x64 .f32) (b1 g1 be1 rm1 rv1 : FVec Ideal S64 .f32)
    (W2 : FVec Ideal S64x64 .f32) (b2 g2 be2 rm2 rv2 : FVec Ideal S64 .f32)
    (W3 : FVec Ideal S64x100 .f32) (b3 : FVec Ideal S100 .f32) : FVec Ideal S16384x100 .f32 :=
  addf (Host.dotGeneral dot_S16384x64_S64x100_S16384x100_1_0_0_1_n_n none
      (normRelu (Host.dotGeneral dot_S16384x64_S64x64_S16384x64_1_0_0_1_n_n none
        (normRelu (Host.dotGeneral dot_S16384x32_S32x64_S16384x64_1_0_0_1_n_n none x W1) b1 g1 be1 rm1 rv1) W2)
        b2 g2 be2 rm2 rv2) W3)
    (broadcastInDim S16384x100 ![0, 1] bcast_S1x100_S16384x100_0_1 (broadcastInDim S1x100 ![1] bcast_S100_S1x100_1 b3))

/-- One number per example, one copy for every class. -/
abbrev cols100 (v : FVec Ideal S16384x1 .f32) : FVec Ideal S16384x100 .f32 :=
  broadcastInDim S16384x100 ![0, 1] bcast_S16384x1_S16384x100_0_1 v

/-- Each example's logits less the largest of them. -/
def shifted (L : FVec Ideal S16384x100 .f32) : FVec Ideal S16384x100 .f32 :=
  subf L (cols100 (broadcastInDim S16384x1 ![0] bcast_S16384_S16384x1_0
    (maximumf (broadcastInDim S16384 ![] bcast_S_S16384 (constant S_ .f32 0xFF800000#32))
      (Host.reduce FloatOps.maximumf L (constant S_ .f32 0xFF800000#32) reducesTo_S16384x100_S16384_d1 h_S_))))

/-- The logarithm of the softmax of each example's logits. -/
def logSoftmax (L : FVec Ideal S16384x100 .f32) : FVec Ideal S16384x100 .f32 :=
  subf (shifted L) (cols100 (Host.log (broadcastInDim S16384x1 ![0] bcast_S16384_S16384x1_0
    (Host.reduceAdd (Host.exp (shifted L)) (constant S_ .f32 0x00000000#32) reducesTo_S16384x100_S16384_d1 h_S_))))

/-- The pairs of indices (example, class) the reference reads the log-probabilities at. -/
def picks (t : IVec S16384 32) : IVec S16384x2 32 :=
  Value.fn_main_v58 (F := Ideal)
    (broadcastInDim S16384x1 ![0] bcast_S16384_S16384x1_0
      (select (cmpi .slt (iotaInDim S16384 32 0) (broadcastInDim S16384 ![] bcast_S_S16384 (constantI S_ 32 0#32)))
        (addi (iotaInDim S16384 32 0) (broadcastInDim S16384 ![] bcast_S_S16384 (constantI S_ 32 16384#32)))
        (iotaInDim S16384 32 0)))
    (broadcastInDim S16384x1 ![0] bcast_S16384_S16384x1_0
      (select (cmpi .slt t (broadcastInDim S16384 ![] bcast_S_S16384 (constantI S_ 32 0#32)))
        (addi t (broadcastInDim S16384 ![] bcast_S_S16384 (constantI S_ 32 100#32))) t))

/-- The loss: less the mean over the examples of the log-probability of the example's class. -/
def lossOf (L : FVec Ideal S16384x100 .f32) (t : IVec S16384 32) : FVec Ideal S_ .f32 :=
  Host.negf (Host.divf (Host.reduceAdd
    (Host.gather gather_S16384x100_S16384x2_S16384_n_01_n_n_01_1_11 (logSoftmax L) (picks t))
    (constant S_ .f32 0x00000000#32) reducesTo_S16384_S_d0 h_S_) (constant S_ .f32 0x46800000#32))

variable (m : (ℓ : Loc nD τ sig) → Buf (Elt Ideal) ℓ)

/-- The logits from a memory's argument arrays. -/
def logitsAt (c : Dev nD) : FVec Ideal S16384x100 .f32 :=
  logits (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

set_option maxRecDepth 65536 in
/-- The reference's result is the loss of its arguments. -/
theorem result_eq (c : Dev nD) :
    Value.res_out0 m c = lossOf (logitsAt m c) (m ((c.tc : Thread nD τ).loc main_arg1)) := rfl

end Cert.ReferenceIdeal.Loss
-- ==== Proof.ReferenceValue.lean ====
/- The reference's loss under real parameters is the network's loss. -/
module

public import proofs.«01_k».proof.Proof.ReferenceTerm
public import proofs.«01_k».proof.Proof.Inputs
public import Idealize.ShloMosaic.Lib.Pointwise

@[expose] public section

set_option maxRecDepth 16384

noncomputable section

namespace Cert.ReferenceIdeal.Loss

open Idealize.ShloMosaic Idealize.ShloMosaic.TcCoe Idealize.ShloMosaic.Tactic
open Cert.ReferenceIdeal Cert.ReferenceIdeal.Gen Cert.Net

/-- Entry `(r, c)` of the reference's logits is the logit of class `c` at example `r`. -/
theorem logits_eq {p : Params} {t : Fin 16384 → Fin 100} {x : FVec Ideal S16384x32 .f32} {w : IVec S16384 32}
    {W1 : FVec Ideal S32x64 .f32} {b1 g1 be1 rm1 rv1 : FVec Ideal S64 .f32} {W2 : FVec Ideal S64x64 .f32}
    {b2 g2 be2 rm2 rv2 : FVec Ideal S64 .f32} {W3 : FVec Ideal S64x100 .f32} {b3 : FVec Ideal S100 .f32}
    (h : Holds p t x w W1 b1 g1 be1 rm1 rv1 W2 b2 g2 be2 rm2 rv2 W3 b3) (r : Fin 16384) (c : Fin 100) :
    logits x W1 b1 g1 be1 rm1 rv1 W2 b2 g2 be2 rm2 rv2 W3 b3 (ix2 r c) = ((p.logit r c : ℝ) : EReal) := by
  pointwise [logits, normRelu]
  simp only [h.x, h.W1, h.b1, h.g1, h.be1, h.rm1, h.W2, h.b2, h.g2, h.be2, h.rm2, h.W3, h.b3,
    unit_plain _ _ _ _ _ _ _ _ (h.div1 _), unit_plain _ _ _ _ _ _ _ _ (h.div2 _)]
  exact logit_coe (p.hidden2 r) (fun k => p.W3 k c) (p.b3 c)

/-- Entry `(r, c)` of the logarithm of the softmax. -/
theorem logSoftmax_eq {Z : Fin 16384 → Fin 100 → ℝ} {L : FVec Ideal S16384x100 .f32}
    (hL : ∀ r c, L (ix2 r c) = ((Z r c : ℝ) : EReal)) (r : Fin 16384) (c : Fin 100) :
    logSoftmax L (ix2 r c)
      = ((Z r c : ℝ) : EReal) - ((top (Z r) : ℝ) : EReal) - ((logSum (Z r) : ℝ) : EReal) := by
  pointwise [logSoftmax, shifted]
  simp only [hL, bits_neg_inf, fold_max_logits, max_eq_right bot_le, log_sum_logits]

/-- A word below 2 ^ 31 does not compare below zero, so the wrap of negative indices leaves it. -/
theorem wrap_eq {a b : BitVec 32} (h : a.toNat < 2 ^ 31) :
    Scalar.select (IntOp.cmpi .slt a 0#32) (IntOp.addi a b) a = a := by
  have e : ¬ IntOp.cmpi .slt a 0#32 = 1#1 := fun hc => by
    have := (StableHlo.Predicate.slt_iff_toNat h (by decide)).1 hc
    simp at this
  exact if_neg e

/-- The first of an example's two indices is the example's number. -/
theorem picks_fst (t : IVec S16384 32) (r : Fin 16384) : (picks t (ix2 r 0)).toInt = r.val := by
  pointwise [picks, Value.fn_main_v58]
  rw [wrap_eq (by rw [BitVec.toNat_ofNat]; omega)]
  exact StableHlo.Predicate.toInt_ofNat_small _ (by omega)

/-- The second is its class word. -/
theorem picks_snd {t : IVec S16384 32} {r : Fin 16384} {c : Fin 100} (h : (t (ix1 r)).toNat = c.val) :
    (picks t (ix2 r 1)).toInt = c.val := by
  pointwise [picks, Value.fn_main_v58]
  rw [wrap_eq (by omega), StableHlo.Predicate.toInt_eq_toNat_of_lt (by omega), h]

/-- The entry read for an example is the one its two indices name. -/
theorem gather_eq (y : FVec Ideal S16384x100 .f32) (i : IVec S16384x2 32) (r q : Fin 16384) (c : Fin 100)
    (h0 : (i (ix2 r 0)).toInt = q.val) (h1 : (i (ix2 r 1)).toInt = c.val) :
    Host.gather gather_S16384x100_S16384x2_S16384_n_01_n_n_01_1_11 y i (ix1 r) = y (ix2 q c) := by
  unfold Host.gather
  refine congrArg y (funext fun a => Fin.ext ?_)
  have hb : ∀ a, a ∉ gather_S16384x100_S16384x2_S16384_n_01_n_n_01_1_11.operandBatchingDims := fun _ => List.not_mem_nil
  have hk : ∀ a, a ∉ gather_S16384x100_S16384x2_S16384_n_01_n_n_01_1_11.sKept := by decide
  have hm : ∀ a, a ∈ gather_S16384x100_S16384x2_S16384_n_01_n_n_01_1_11.startIndexMap := by decide
  simp only [GatherDims.operandIdx, GatherDims.batchCoord_eq_zero _ _ _ (hb _), GatherDims.offCoord_eq_zero _ _ _ (hk _),
    Nat.add_zero, GatherDims.start, dif_pos (hm _)]
  match a with
  | ⟨0, _⟩ =>
    have e : gather_S16384x100_S16384x2_S16384_n_01_n_n_01_1_11.siIdx (ix1 r) ⟨0, by decide⟩ = ix2 r 0 := by
      funext b; apply Fin.ext
      match b with
      | ⟨0, _⟩ => rfl
      | ⟨1, _⟩ => rfl
    have g : min (i (gather_S16384x100_S16384x2_S16384_n_01_n_n_01_1_11.siIdx (ix1 r) ⟨0, by decide⟩)).toInt.toNat (16384 - 1) = q.val := by
      rw [e, h0]; omega
    exact g
  | ⟨1, _⟩ =>
    have e : gather_S16384x100_S16384x2_S16384_n_01_n_n_01_1_11.siIdx (ix1 r) ⟨1, by decide⟩ = ix2 r 1 := by
      funext b; apply Fin.ext
      match b with
      | ⟨0, _⟩ => rfl
      | ⟨1, _⟩ => rfl
    have g : min (i (gather_S16384x100_S16384x2_S16384_n_01_n_n_01_1_11.siIdx (ix1 r) ⟨1, by decide⟩)).toInt.toNat (100 - 1) = c.val := by
      rw [e, h1]; omega
    exact g

/-- The loss of real logits is the network's loss. -/
theorem lossOf_eq {Z : Fin 16384 → Fin 100 → ℝ} {t : Fin 16384 → Fin 100} {L : FVec Ideal S16384x100 .f32}
    {w : IVec S16384 32} (hL : ∀ r c, L (ix2 r c) = ((Z r c : ℝ) : EReal)) (hw : ∀ r, (w (ix1 r)).toNat = (t r).val) :
    lossOf L w = fun _ => ((loss Z t : ℝ) : EReal) := by
  funext j
  pointwise [lossOf]
  simp only [gather_eq _ _ _ _ _ (picks_fst w _) (picks_snd (hw _)), logSoftmax_eq hL, loss_mean]

end Cert.ReferenceIdeal.Loss
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.ReferenceValue
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.ShloMosaic.Tactic Idealize.SL.Sem

/-- The reference runs, leaves its arguments and ends with every counter at zero, from every memory. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The padding classes' bias is named minus infinity. -/
theorem preserves : Cert.preserves_Kernel_KernelIdeal :=
  IdealRules.named_const.statement Cert.KernelIdeal.κ "mask" .f32 0xF149F2CA#32 ⊥ rfl

/-- The side conditions of the precondition's operations, for the statements that take them. -/
instance preFacts : Cert.Pre_finite_and_in_range.Facts := Cert.Pre_finite_and_in_range.facts

/-- Of arguments that satisfy the precondition and agree, the kernel's loss is the reference's. -/
theorem loss_eq {m : (ℓ : Loc Cert.KernelIdeal.nD Cert.KernelIdeal.τ Cert.KernelIdeal.sig) → Buf (Elt Ideal) ℓ}
    (hpre : Cert.Pre_KernelIdeal_finite_and_in_range m) (c : Dev Cert.KernelIdeal.nD) :
    ∃ v : EReal, Cert.KernelIdeal.Loss.lossAt m c = v ∧
      Cert.ReferenceIdeal.Loss.lossOf (Cert.ReferenceIdeal.Loss.logits
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15)))
        (m ((c.tc : Thread Cert.KernelIdeal.nD Cert.KernelIdeal.τ).loc Cert.KernelIdeal.main_arg1)) = fun _ => v := by
  obtain ⟨p, t, h⟩ := Cert.Pre_finite_and_in_range.holds (hpre c)
  exact ⟨_, Cert.KernelIdeal.Loss.lossOf_eq (Cert.KernelIdeal.Loss.logits_eq h) h.w,
    Cert.ReferenceIdeal.Loss.lossOf_eq (Cert.ReferenceIdeal.Loss.logits_eq h) h.w⟩

/-- Under the precondition the two programs end with equal losses. -/
theorem algebraic : Cert.algebraic_KernelIdeal_ReferenceIdeal_pre_finite_and_in_range := by
  intro m g m' g' hpre hagree
  refine ⟨_, Cert.KernelIdeal.Loss.run m g, ?_⟩
  refine (θ_run Cert.ReferenceIdeal.defs _ _).mono (fun _ h c => ⟨(h c).1.trans ?_, (h c).2⟩)
    (Cert.ReferenceIdeal.Value.run (F := Ideal) m' g')
  refine (Cert.ReferenceIdeal.Loss.result_eq m' c).trans ?_
  unfold Cert.ReferenceIdeal.Loss.logitsAt
  obtain ⟨h0, h1, h2, h3, h4, h5, h6, h7, h8, h9, h10, h11, h12, h13, h14, h15⟩ := hagree c
  rw [h0, h1, h2, h3, h4, h5, h6, h7, h8, h9, h10, h11, h12, h13, h14, h15]
  obtain ⟨v, hk, hr⟩ := loss_eq hpre c
  rw [hk]
  exact hr

/-- Everything the certificate claims. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    preserves, algebraic⟩

end Cert.Proof

end
